-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S96x96x3x3 : Shape := ⟨4, ![96, 96, 3, 3]⟩
abbrev S96x1x1x1 : Shape := ⟨4, ![96, 1, 1, 1]⟩
abbrev S3x3x96x96 : Shape := ⟨4, ![3, 3, 96, 96]⟩
abbrev S9x96x96 : Shape := ⟨3, ![9, 96, 96]⟩
abbrev S96x1 : Shape := ⟨2, ![96, 1]⟩
abbrev S8x96x50176 : Shape := ⟨3, ![8, 96, 50176]⟩
abbrev S4096 : Shape := ⟨1, ![4096]⟩
abbrev S_ : Shape := ⟨0, ![]⟩
abbrev S1x4096 : Shape := ⟨2, ![1, 4096]⟩
abbrev S2x4096 : Shape := ⟨2, ![2, 4096]⟩
abbrev S1x96x256 : Shape := ⟨3, ![1, 96, 256]⟩
abbrev S1x96x25088 : Shape := ⟨3, ![1, 96, 25088]⟩
abbrev S96x256 : Shape := ⟨2, ![96, 256]⟩
abbrev S1x96x3840 : Shape := ⟨3, ![1, 96, 3840]⟩
abbrev S96x3840 : Shape := ⟨2, ![96, 3840]⟩
abbrev S96x4096 : Shape := ⟨2, ![96, 4096]⟩
abbrev S96x3584 : Shape := ⟨2, ![96, 3584]⟩
abbrev S1x3584 : Shape := ⟨2, ![1, 3584]⟩
abbrev S1x96x96 : Shape := ⟨3, ![1, 96, 96]⟩
abbrev S96x96 : Shape := ⟨2, ![96, 96]⟩
abbrev S1x96x3584 : Shape := ⟨3, ![1, 96, 3584]⟩
abbrev S1x96x4096 : Shape := ⟨3, ![1, 96, 4096]⟩

abbrev nBuf : Space → Nat
  | .hbm => 46
  | .vmem => 11
  | .smem => 0
  | _ => 0

abbrev bufTy : (tb : Table) → Fin (tcTables nBuf tb) → BufTy
  | .hbm, ⟨0, _⟩ => ⟨S8x96x224x224, .f32⟩
  | .hbm, ⟨1, _⟩ => ⟨S96x96x3x3, .f32⟩
  | .hbm, ⟨2, _⟩ => ⟨S96x1x1x1, .f32⟩
  | .hbm, ⟨3, _⟩ => ⟨S3x3x96x96, .f32⟩
  | .hbm, ⟨4, _⟩ => ⟨S9x96x96, .f32⟩
  | .hbm, ⟨5, _⟩ => ⟨S9x96x96, .bf16⟩
  | .hbm, ⟨6, _⟩ => ⟨S96x1, .f32⟩
  | .hbm, ⟨7, _⟩ => ⟨S8x96x50176, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S_, .i1⟩
  | .hbm, ⟨28, _⟩ => ⟨S4096, .i1⟩
  | .hbm, ⟨29, _⟩ => ⟨S4096, .i1⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S1x4096, .i1⟩
  | .hbm, ⟨41, _⟩ => ⟨S1x4096, .i1⟩
  | .hbm, ⟨42, _⟩ => ⟨S2x4096, .i1⟩
  | .hbm, ⟨43, _⟩ => ⟨S2x4096, .bf16⟩
  | .hbm, ⟨44, _⟩ => ⟨S8x96x50176, .f32⟩
  | .hbm, ⟨45, _⟩ => ⟨S8x96x224x224, .f32⟩
  | .local _ .vmem, ⟨0, _⟩ => ⟨S9x96x96, .bf16⟩
  | .local _ .vmem, ⟨1, _⟩ => ⟨S96x1, .f32⟩
  | .local _ .vmem, ⟨2, _⟩ => ⟨S2x4096, .bf16⟩
  | .local _ .vmem, ⟨3, _⟩ => ⟨S1x96x256, .f32⟩
  | .local _ .vmem, ⟨4, _⟩ => ⟨S1x96x256, .f32⟩
  | .local _ .vmem, ⟨5, _⟩ => ⟨S1x96x25088, .f32⟩
  | .local _ .vmem, ⟨6, _⟩ => ⟨S1x96x25088, .f32⟩
  | .local _ .vmem, ⟨7, _⟩ => ⟨S1x96x256, .f32⟩
  | .local _ .vmem, ⟨8, _⟩ => ⟨S1x96x256, .f32⟩
  | .local _ .vmem, ⟨9, _⟩ => ⟨S1x96x25088, .f32⟩
  | .local _ .vmem, ⟨10, _⟩ => ⟨S1x96x25088, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c98_i32 : BitVec 32 := 98#32
  let v0 : BitVec 32 := Scalar.muli arg1 c98_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c98_i32 : BitVec 32 := 98#32
  let v0 : BitVec 32 := Scalar.muli arg1 c98_i32
  let c98_i32_0 : BitVec 32 := 98#32
  let v1 : BitVec 32 := Scalar.addi v0 c98_i32_0
  let c195_i32 : BitVec 32 := 195#32
  let v2 : BitVec 32 := Scalar.minsi v1 c195_i32
  let c0_i32 : BitVec 32 := 0#32
  let c0_i32_1 : BitVec 32 := 0#32
  ![arg0.toNat, c0_i32.toNat, v2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S9x96x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x96x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x25088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x25088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x96x224x224 : Shape := ⟨4, ![8, 96, 224, 224]⟩
abbrev S96x96x3x3 : Shape := ⟨4, ![96, 96, 3, 3]⟩
abbrev S96x1x1x1 : Shape := ⟨4, ![96, 1, 1, 1]⟩
abbrev S_ : Shape := ⟨0, ![]⟩
abbrev S8x96x226x226 : Shape := ⟨4, ![8, 96, 226, 226]⟩
abbrev S96x96x1x1 : Shape := ⟨4, ![96, 96, 1, 1]⟩
abbrev S96x96 : Shape := ⟨2, ![96, 96]⟩
abbrev S8x224x224x96 : Shape := ⟨4, ![8, 224, 224, 96]⟩
abbrev S1x96x1x1 : Shape := ⟨4, ![1, 96, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S96x96x3x3, .f32⟩
  | .hbm, ⟨2, _⟩ => ⟨S96x1x1x1, .f32⟩
  | .hbm, ⟨3, _⟩ => ⟨S_, .i32⟩
  | .hbm, ⟨4, _⟩ => ⟨S_, .f32⟩
  | .hbm, ⟨5, _⟩ => ⟨S8x96x226x226, .f32⟩
  | .hbm, ⟨6, _⟩ => ⟨S_, .f32⟩
  | .hbm, ⟨7, _⟩ => ⟨S8x96x224x224, .f32⟩
  | .hbm, ⟨8, _⟩ => ⟨S96x96x1x1, .f32⟩
  | .hbm, ⟨9, _⟩ => ⟨S96x96, .f32⟩
  | .hbm, ⟨10, _⟩ => ⟨S8x96x224x224, .f32⟩
  | .hbm, ⟨11, _⟩ => ⟨S8x224x224x96, .f32⟩
  | .hbm, ⟨12, _⟩ => ⟨S8x96x224x224, .f32⟩
  | .hbm, ⟨13, _⟩ => ⟨S8x96x224x224, .f32⟩
  | .hbm, ⟨14, _⟩ => ⟨S96x96x1x1, .f32⟩
  | .hbm, ⟨15, _⟩ => ⟨S96x96, .f32⟩
  | .hbm, ⟨16, _⟩ => ⟨S8x96x224x224, .f32⟩
  | .hbm, ⟨17, _⟩ => ⟨S8x224x224x96, .f32⟩
  | .hbm, ⟨18, _⟩ => ⟨S8x96x224x224, .f32⟩
  | .hbm, ⟨19, _⟩ => ⟨S8x96x224x224, .f32⟩
  | .hbm, ⟨20, _⟩ => ⟨S96x96x1x1, .f32⟩
  | .hbm, ⟨21, _⟩ => ⟨S96x96, .f32⟩
  | .hbm, ⟨22, _⟩ => ⟨S8x96x224x224, .f32⟩
  | .hbm, ⟨23, _⟩ => ⟨S8x224x224x96, .f32⟩
  | .hbm, ⟨24, _⟩ => ⟨S8x96x224x224, .f32⟩
  | .hbm, ⟨25, _⟩ => ⟨S8x96x224x224, .f32⟩
  | .hbm, ⟨26, _⟩ => ⟨S96x96x1x1, .f32⟩
  | .hbm, ⟨27, _⟩ => ⟨S96x96, .f32⟩
  | .hbm, ⟨28, _⟩ => ⟨S8x96x224x224, .f32⟩
  | .hbm, ⟨29, _⟩ => ⟨S8x224x224x96, .f32⟩
  | .hbm, ⟨30, _⟩ => ⟨S8x96x224x224, .f32⟩
  | .hbm, ⟨31, _⟩ => ⟨S8x96x224x224, .f32⟩
  | .hbm, ⟨32, _⟩ => ⟨S96x96x1x1, .f32⟩
  | .hbm, ⟨33, _⟩ => ⟨S96x96, .f32⟩
  | .hbm, ⟨34, _⟩ => ⟨S8x96x224x224, .f32⟩
  | .hbm, ⟨35, _⟩ => ⟨S8x224x224x96, .f32⟩
  | .hbm, ⟨36, _⟩ => ⟨S8x96x224x224, .f32⟩
  | .hbm, ⟨37, _⟩ => ⟨S8x96x224x224, .f32⟩
  | .hbm, ⟨38, _⟩ => ⟨S96x96x1x1, .f32⟩
  | .hbm, ⟨39, _⟩ => ⟨S96x96, .f32⟩
  | .hbm, ⟨40, _⟩ => ⟨S8x96x224x224, .f32⟩
  | .hbm, ⟨41, _⟩ => ⟨S8x224x224x96, .f32⟩
  | .hbm, ⟨42, _⟩ => ⟨S8x96x224x224, .f32⟩
  | .hbm, ⟨43, _⟩ => ⟨S8x96x224x224, .f32⟩
  | .hbm, ⟨44, _⟩ => ⟨S96x96x1x1, .f32⟩
  | .hbm, ⟨45, _⟩ => ⟨S96x96, .f32⟩
  | .hbm, ⟨46, _⟩ => ⟨S8x96x224x224, .f32⟩
  | .hbm, ⟨47, _⟩ => ⟨S8x224x224x96, .f32⟩
  | .hbm, ⟨48, _⟩ => ⟨S8x96x224x224, .f32⟩
  | .hbm, ⟨49, _⟩ => ⟨S8x96x224x224, .f32⟩
  | .hbm, ⟨50, _⟩ => ⟨S96x96x1x1, .f32⟩
  | .hbm, ⟨51, _⟩ => ⟨S96x96, .f32⟩
  | .hbm, ⟨52, _⟩ => ⟨S8x96x224x224, .f32⟩
  | .hbm, ⟨53, _⟩ => ⟨S8x224x224x96, .f32⟩
  | .hbm, ⟨54, _⟩ => ⟨S8x96x224x224, .f32⟩
  | .hbm, ⟨55, _⟩ => ⟨S8x96x224x224, .f32⟩
  | .hbm, ⟨56, _⟩ => ⟨S96x96x1x1, .f32⟩
  | .hbm, ⟨57, _⟩ => ⟨S96x96, .f32⟩
  | .hbm, ⟨58, _⟩ => ⟨S8x96x224x224, .f32⟩
  | .hbm, ⟨59, _⟩ => ⟨S8x224x224x96, .f32⟩
  | .hbm, ⟨60, _⟩ => ⟨S8x96x224x224, .f32⟩
  | .hbm, ⟨61, _⟩ => ⟨S8x96x224x224, .f32⟩
  | .hbm, ⟨62, _⟩ => ⟨S1x96x1x1, .f32⟩
  | .hbm, ⟨63, _⟩ => ⟨S8x96x224x224, .f32⟩
  | .hbm, ⟨64, _⟩ => ⟨S8x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Proof.Conv.Spec.lean ====
/-
  The convolution as plain mathematics over the extended reals: the image bordered by zeros, one tap of the 3 × 3
  window, and the nine taps with the bias. The image read as a line of pixels, row after row with 256 zeros before and
  after, agrees with the bordered image wherever the shifted column lies in the row.
-/
module

public import proofs.«01_k».proof.Proof.Gen.KernelIdeal.Frame
public import Idealize.ShloMosaic.Lib.Pointwise

@[expose] public section

noncomputable section

namespace Cert.KernelIdeal.Conv

open Cert.KernelIdeal
open Idealize.ShloMosaic Idealize.ShloMosaic.TcCoe

variable (X : FVec Ideal S8x96x224x224 .f32) (K : FVec Ideal S96x96x3x3 .f32) (B : FVec Ideal S96x1x1x1 .f32)

/-- The image with a border of zeros one pixel wide: the image's pixel `(h, w)` lies at `(h + 1, w + 1)`. -/
def xpad (b : Fin 8) (c : Fin 96) (h w : ℕ) : EReal :=
  if hh : (1 ≤ h ∧ h ≤ 224) ∧ (1 ≤ w ∧ w ≤ 224) then
    X (ix4 b c ⟨h - 1, by omega⟩ ⟨w - 1, by omega⟩)
  else 0

/-- The place of a tap in the row of nine. -/
def tapIx (kh kw : Fin 3) : Fin 9 := ⟨3 * kh.val + kw.val, by omega⟩

/-- One tap: the sum over the input channels of a weight times the bordered image. -/
def tap (b : Fin 8) (o : Fin 96) (h w : ℕ) (kh kw : Fin 3) : EReal :=
  ∑ c : Fin 96, K (ix4 o c kh kw) * xpad X b c (h + kh.val) (w + kw.val)

/-- The convolution at an output channel and a pixel: the nine taps and the bias. -/
def conv (b : Fin 8) (o : Fin 96) (h w : ℕ) : EReal :=
  tap X K b o h w 0 0 + tap X K b o h w 0 1 + tap X K b o h w 0 2
    + tap X K b o h w 1 0 + tap X K b o h w 1 1 + tap X K b o h w 1 2
    + tap X K b o h w 2 0 + tap X K b o h w 2 1 + tap X K b o h w 2 2 + B (ix4 o 0 0 0)

/-- The image of one channel as a line of pixels with 256 zeros on either side. -/
def line (b : Fin 8) (c : Fin 96) (n : ℕ) : EReal :=
  if hh : 256 ≤ n ∧ n < 50432 then
    X (ix4 b c ⟨(n - 256) / 224, by omega⟩ ⟨(n - 256) % 224, by omega⟩)
  else 0

/-- The line at a shifted pixel, times whether the shifted column lies in the row, is the bordered image. -/
theorem line_mask (b : Fin 8) (c : Fin 96) (n : ℕ) (hn : n < 50176) (kh kw : Fin 3) :
    line X b c (n + 31 + kh.val * 224 + kw.val)
        * (if 1 ≤ n % 224 + kw.val ∧ n % 224 + kw.val ≤ 224 then (1 : EReal) else 0)
      = xpad X b c (n / 224 + kh.val) (n % 224 + kw.val) := by
  have hkh := kh.isLt
  have hkw := kw.isLt
  by_cases hc : 1 ≤ n % 224 + kw.val ∧ n % 224 + kw.val ≤ 224
  · rw [if_pos hc, mul_one]
    unfold line xpad
    by_cases hr : 1 ≤ n / 224 + kh.val ∧ n / 224 + kh.val ≤ 224
    · rw [dif_pos (by omega), dif_pos ⟨hr, hc⟩]
      congr 2 <;> exact Fin.ext (by simp only []; omega)
    · rw [dif_neg (by omega), dif_neg (fun h => hr h.1)]
  · rw [if_neg hc, mul_zero]
    unfold xpad
    rw [dif_neg (fun h => hc h.2)]

/-- In the middle column of the window no mask is needed. -/
theorem line_mid (b : Fin 8) (c : Fin 96) (n : ℕ) (hn : n < 50176) (kh : Fin 3) :
    line X b c (n + 31 + kh.val * 224 + 1) = xpad X b c (n / 224 + kh.val) (n % 224 + 1) := by
  have h := line_mask X b c n hn kh 1
  rw [if_pos (by change 1 ≤ n % 224 + 1 ∧ n % 224 + 1 ≤ 224; omega), mul_one] at h
  exact h

end Cert.KernelIdeal.Conv

end
-- ==== Proof.Conv.Strip.lean ====
/-
  One strip of the kernel's body: 3584 consecutive pixels of every output channel, as nine shifted products of a
  96 × 4096 window of pixels with the nine weight matrices, plus the bias. The body writes seven strips, each the same
  function of its own window; here the function is stated once, and read at a pixel at the ideal instance.
-/
module

public import proofs.«01_k».proof.Proof.Gen.KernelIdeal.Frame
public import Idealize.ShloMosaic.Lib.Pointwise
public import proofs.«01_k».proof.Proof.Conv.Spec

@[expose] public section

set_option maxRecDepth 16384

noncomputable section

namespace Cert.KernelIdeal.Conv

open Cert.KernelIdeal Cert.KernelIdeal.Gen
open Idealize.ShloMosaic Idealize.ShloMosaic.TcCoe Idealize.SL.Sem

/-- The window shifted by `off` pixels, masked by a row of column masks. -/
def shiftM (off : ℕ) (h : S96x4096.Slices ![0, off] S96x3584) (ws : FVec Ideal S96x4096 .bf16)
    (mk : FVec Ideal S1x3584 .bf16) : FVec Ideal S96x3584 .bf16 :=
  mulf (extractStridedSlice S96x3584 ![0, off] ws h)
    (broadcastTo S96x3584 (shapeCast S1x3584 mk shapeCasts_S1x3584_S1x3584) broadcasts_S1x3584_S96x3584)

/-- The product of one weight matrix with a shifted window. -/
def prod (w : FVec Ideal S1x96x96 .bf16) (b : FVec Ideal S96x3584 .bf16) : FVec Ideal S96x3584 .f32 :=
  matmul dot_S96x96_S96x3584_S96x3584_1_0_0_1_n_n none (shapeCast S96x96 w shapeCasts_S1x96x96_S96x96) b
    (constant S96x3584 .f32 0x00000000#32)

/-- One strip: the nine products summed in the order of the taps, and the bias added. -/
def strip (ws : FVec Ideal S96x4096 .bf16) (x0 : Vec Ideal S9x96x96 .bf16) (x1 : Vec Ideal S96x1 .f32)
    (x2 : Vec Ideal S2x4096 .bf16) : FVec Ideal S1x96x3584 .f32 :=
  shapeCast S1x96x3584
    (addf
      (addf (addf (addf (addf (addf (addf (addf (addf (addf
        (broadcast S96x3584 (Scalar.ofBits .f32 0x00000000#32))
        (prod (View.ld x0 r0_3) (shiftM 31 slices_S96x4096_o0_31_S96x3584 ws (View.ld x2 r0_2))))
        (prod (View.ld x0 r0_4) (extractStridedSlice S96x3584 ![0, 32] ws slices_S96x4096_o0_32_S96x3584)))
        (prod (View.ld x0 r0_6) (shiftM 33 slices_S96x4096_o0_33_S96x3584 ws (View.ld x2 r0_5))))
        (prod (View.ld x0 r0_8) (shiftM 255 slices_S96x4096_o0_255_S96x3584 ws (View.ld x2 r0_7))))
        (prod (View.ld x0 r0_9) (extractStridedSlice S96x3584 ![0, 256] ws slices_S96x4096_o0_256_S96x3584)))
        (prod (View.ld x0 r0_11) (shiftM 257 slices_S96x4096_o0_257_S96x3584 ws (View.ld x2 r0_10))))
        (prod (View.ld x0 r0_13) (shiftM 479 slices_S96x4096_o0_479_S96x3584 ws (View.ld x2 r0_12))))
        (prod (View.ld x0 r0_14) (extractStridedSlice S96x3584 ![0, 480] ws slices_S96x4096_o0_480_S96x3584)))
        (prod (View.ld x0 r0_16) (shiftM 481 slices_S96x4096_o0_481_S96x3584 ws (View.ld x2 r0_15))))
      (broadcastTo S96x3584 (shapeCast S96x1 (View.ld x1 r0_17) shapeCasts_S96x1_S96x1) broadcasts_S96x1_S96x3584))
    shapeCasts_S96x3584_S1x96x3584

/-- A shifted, masked window at a pixel. -/
theorem shiftM_at (off : ℕ) (h) (ws : FVec Ideal S96x4096 .bf16) (mk : FVec Ideal S1x3584 .bf16)
    (c : Fin 96) (p : Fin 3584) (hl : off + p.val < 4096) :
    shiftM off h ws mk (ix2 c p) = ws (ix2 c ⟨off + p.val, hl⟩) * mk (ix2 0 p) := by
  pointwise [shiftM]

/-- A product at an output channel and a pixel. -/
theorem prod_at (w : FVec Ideal S1x96x96 .bf16) (b : FVec Ideal S96x3584 .bf16) (o : Fin 96) (p : Fin 3584) :
    prod w b (ix2 o p) = ∑ k : Fin 96, w (ix3 0 o k) * b (ix2 k p) := by
  pointwise [prod]

/-- A strip at an output channel and a pixel, as nine sums over the input channels. -/
theorem strip_at (ws : FVec Ideal S96x4096 .bf16) (x0 : Vec Ideal S9x96x96 .bf16) (x1 : Vec Ideal S96x1 .f32)
    (x2 : Vec Ideal S2x4096 .bf16) (o : Fin 96) (p : Fin 3584) :
    strip ws x0 x1 x2 (ix3 0 o p)
      = ((∑ k, x0 (ix3 0 o k) * (ws (ix2 k ⟨31 + p.val, by omega⟩) * x2 (ix2 0 ⟨31 + p.val, by omega⟩)))
        + (∑ k, x0 (ix3 1 o k) * ws (ix2 k ⟨32 + p.val, by omega⟩))
        + (∑ k, x0 (ix3 2 o k) * (ws (ix2 k ⟨33 + p.val, by omega⟩) * x2 (ix2 1 ⟨33 + p.val, by omega⟩)))
        + (∑ k, x0 (ix3 3 o k) * (ws (ix2 k ⟨255 + p.val, by omega⟩) * x2 (ix2 0 ⟨255 + p.val, by omega⟩)))
        + (∑ k, x0 (ix3 4 o k) * ws (ix2 k ⟨256 + p.val, by omega⟩))
        + (∑ k, x0 (ix3 5 o k) * (ws (ix2 k ⟨257 + p.val, by omega⟩) * x2 (ix2 1 ⟨257 + p.val, by omega⟩)))
        + (∑ k, x0 (ix3 6 o k) * (ws (ix2 k ⟨479 + p.val, by omega⟩) * x2 (ix2 0 ⟨479 + p.val, by omega⟩)))
        + (∑ k, x0 (ix3 7 o k) * ws (ix2 k ⟨480 + p.val, by omega⟩))
        + (∑ k, x0 (ix3 8 o k) * (ws (ix2 k ⟨481 + p.val, by omega⟩) * x2 (ix2 1 ⟨481 + p.val, by omega⟩)))
        + x1 (ix2 o 0) : EReal) := by
  pointwise [strip, prod_at, shiftM, r0_3, r0_17, r0_2, r0_4]

section

variable (X : FVec Ideal S8x96x224x224 .f32) (K : FVec Ideal S96x96x3x3 .f32) (B : FVec Ideal S96x1x1x1 .f32)
  {ws : FVec Ideal S96x4096 .bf16} {x0 : FVec Ideal S9x96x96 .bf16} {x1 : FVec Ideal S96x1 .f32}
  {x2 : FVec Ideal S2x4096 .bf16} (b : Fin 8) (n0 : ℕ)
  (hws : ∀ (c : Fin 96) (l : Fin 4096), ws (ix2 c l) = line X b c (n0 + l.val))
  (h0 : ∀ (o c : Fin 96) (kh kw : Fin 3),
    x0 (ix3 (tapIx kh kw) o c) = K (ix4 o c kh kw))
  (h1 : ∀ o : Fin 96, x1 (ix2 o 0) = B (ix4 o 0 0 0))
  (hL : ∀ l : Fin 4096, x2 (ix2 0 l) = (if (l.val + 192) % 224 = 223 then 0 else 1 : EReal))
  (hR : ∀ l : Fin 4096, x2 (ix2 1 l) = (if (l.val + 192) % 224 = 0 then 0 else 1 : EReal))

include hws h0 in
/-- An outer tap of a strip: the mask says whether the shifted column lies in the row. -/
theorem outer_tap (o : Fin 96) (p : Fin 3584) (hp : n0 + p.val < 50176) (kh kw : Fin 3) (r : Fin 2) (l : Fin 4096)
    (hl : l.val = 31 + kh.val * 224 + kw.val + p.val)
    (hm : x2 (ix2 r l)
      = (if 1 ≤ (n0 + p.val) % 224 + kw.val ∧ (n0 + p.val) % 224 + kw.val ≤ 224 then 1 else 0 : EReal)) :
    (∑ k : Fin 96, x0 (ix3 (tapIx kh kw) o k) * (ws (ix2 k l) * x2 (ix2 r l)) : EReal)
      = tap X K b o ((n0 + p.val) / 224) ((n0 + p.val) % 224) kh kw := by
  unfold tap
  refine Finset.sum_congr rfl fun k _ => ?_
  rw [h0, hm, hws, ← line_mask X b k (n0 + p.val) hp kh kw, hl]
  congr 3
  omega

include hws h0 in
/-- A middle tap of a strip, which no mask touches. -/
theorem middle_tap (o : Fin 96) (p : Fin 3584) (hp : n0 + p.val < 50176) (kh : Fin 3) (l : Fin 4096)
    (hl : l.val = 32 + kh.val * 224 + p.val) :
    (∑ k : Fin 96, x0 (ix3 (tapIx kh 1) o k) * ws (ix2 k l) : EReal)
      = tap X K b o ((n0 + p.val) / 224) ((n0 + p.val) % 224) kh 1 := by
  unfold tap
  refine Finset.sum_congr rfl fun k _ => ?_
  have e := line_mid X b k (n0 + p.val) hp kh
  rw [hws, hl, show n0 + (32 + kh.val * 224 + p.val) = n0 + p.val + 31 + kh.val * 224 + 1 by omega, e]
  exact congrArg (· * _) (h0 o k kh 1)

include hws h0 h1 hL hR in
/-- A strip whose window is the line of pixels from `n0` on is the convolution at the strip's pixels. -/
theorem strip_conv (hn : n0 % 224 = 0) (hn' : n0 + 3584 ≤ 50176) (o : Fin 96) (p : Fin 3584) :
    strip ws x0 x1 x2 (ix3 0 o p) = conv X K B b o ((n0 + p.val) / 224) ((n0 + p.val) % 224) := by
  have hp : n0 + p.val < 50176 := by omega
  have mL : ∀ (kh : Fin 3) (l : Fin 4096), l.val = 31 + kh.val * 224 + 0 + p.val → x2 (ix2 0 l)
      = (if 1 ≤ (n0 + p.val) % 224 + (0 : Fin 3).val ∧ (n0 + p.val) % 224 + (0 : Fin 3).val ≤ 224 then 1 else 0 :
        EReal) := by
    intro kh l hl
    rw [hL]
    change _ = if 1 ≤ (n0 + p.val) % 224 + 0 ∧ (n0 + p.val) % 224 + 0 ≤ 224 then (1 : EReal) else 0
    by_cases h : (l.val + 192) % 224 = 223
    · rw [if_pos h, if_neg (by omega)]
    · rw [if_neg h, if_pos (by omega)]
  have mR : ∀ (kh : Fin 3) (l : Fin 4096), l.val = 31 + kh.val * 224 + 2 + p.val → x2 (ix2 1 l)
      = (if 1 ≤ (n0 + p.val) % 224 + (2 : Fin 3).val ∧ (n0 + p.val) % 224 + (2 : Fin 3).val ≤ 224 then 1 else 0 :
        EReal) := by
    intro kh l hl
    rw [hR]
    change _ = if 1 ≤ (n0 + p.val) % 224 + 2 ∧ (n0 + p.val) % 224 + 2 ≤ 224 then (1 : EReal) else 0
    by_cases h : (l.val + 192) % 224 = 0
    · rw [if_pos h, if_neg (by omega)]
    · rw [if_neg h, if_pos (by omega)]
  have tL : ∀ (kh : Fin 3) (l : Fin 4096) (hl : l.val = 31 + kh.val * 224 + 0 + p.val), _ :=
    fun kh l hl => outer_tap X K b n0 hws h0 o p hp kh 0 0 l hl (mL kh l hl)
  have tR : ∀ (kh : Fin 3) (l : Fin 4096) (hl : l.val = 31 + kh.val * 224 + 2 + p.val), _ :=
    fun kh l hl => outer_tap X K b n0 hws h0 o p hp kh 2 1 l hl (mR kh l hl)
  have tM : ∀ (kh : Fin 3) (l : Fin 4096) (hl : l.val = 32 + kh.val * 224 + p.val), _ :=
    fun kh l hl => middle_tap X K b n0 hws h0 o p hp kh l hl
  rw [strip_at]
  unfold conv
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·)
      (tL 0 _ ?_) (tM 0 _ ?_)) (tR 0 _ ?_)) (tL 1 _ ?_)) (tM 1 _ ?_)) (tR 1 _ ?_)) (tL 2 _ ?_)) (tM 2 _ ?_))
      (tR 2 _ ?_)) (h1 o)
  all_goals rfl

end

end Cert.KernelIdeal.Conv

end
-- ==== Proof.Conv.Body.lean ====
/-
  The kernel's body at one grid point: if its blocks hold the weights, the bias, the column masks and the line of
  pixels around the point's half image, the block it writes holds the convolution.
-/
module

public import proofs.«01_k».proof.Proof.Conv.Strip
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.SL.Sem

/-- The factor on the left halo: zero at a half image's start, where the image begins. -/
def leftF (i : grid0.Coords) : EReal := if (i 1).val = 0 then 0 else 1

/-- The factor on the right halo: zero where the image ends. -/
def rightF (i : grid0.Coords) : EReal := if (i 1).val = 1 then 0 else 1

/-- The selected word, converted, is the left factor. -/
theorem leftF_eq (i : grid0.Coords) :
    (Scalar.sitofp .bf16 (Scalar.select (Scalar.cmpi .eq (BitVec.ofNat 32 (i 1).val) 0#32) 0#32 1#32) : Ideal .bf16)
      = leftF i := by
  have h : (i 1).val < 2 := (i 1).isLt
  unfold leftF
  generalize (i 1).val = k at h ⊢
  interval_cases k
  · pointwise
    simp
  · pointwise
    change ((((1#32 : BitVec 32).toInt : ℝ)) : EReal) = 1
    simp

/-- The selected word, converted, is the right factor. -/
theorem rightF_eq (i : grid0.Coords) :
    (Scalar.sitofp .bf16 (Scalar.select (Scalar.cmpi .eq (BitVec.ofNat 32 (i 1).val) 1#32) 0#32 1#32) : Ideal .bf16)
      = rightF i := by
  have h : (i 1).val < 2 := (i 1).isLt
  unfold rightF
  generalize (i 1).val = k at h ⊢
  interval_cases k
  · pointwise
    change ((((1#32 : BitVec 32).toInt : ℝ)) : EReal) = 1
    simp
  · pointwise
    simp

/-- The first strip's window: the left halo times its factor, then the half image's first pixels. -/
theorem first_at (i : grid0.Coords) (a : FVec Ideal S1x96x256 .f32) (m : FVec Ideal S1x96x3840 .f32)
    (c : Fin 96) (l : Fin 4096) :
    k0_pay3 (F := Ideal) i a m (ix2 c l)
      = if h : l.val < 256 then a (ix3 0 c ⟨l.val, h⟩) * leftF i
        else m (ix3 0 c ⟨l.val - 256, by omega⟩) := by
  rw [← leftF_eq]
  pointwise [k0_pay3]

/-- The last strip's window: the half image's last pixels, then the right halo times its factor. -/
theorem last_at (i : grid0.Coords) (a : FVec Ideal S1x96x256 .f32) (m : FVec Ideal S1x96x3840 .f32)
    (c : Fin 96) (l : Fin 4096) :
    k0_pay39 (F := Ideal) (k0_pay2 (F := Ideal) i) m a (ix2 c l)
      = if h : l.val < 3840 then m (ix3 0 c ⟨l.val, h⟩)
        else a (ix3 0 c ⟨l.val - 3840, by omega⟩) * rightF i := by
  rw [← rightF_eq]
  pointwise [k0_pay39, k0_pay2]

section

variable (X : FVec Ideal S8x96x224x224 .f32) (K : FVec Ideal S96x96x3x3 .f32) (B : FVec Ideal S96x1x1x1 .f32)
  (i : grid0.Coords) {x0 : FVec Ideal S9x96x96 .bf16} {x1 : FVec Ideal S96x1 .f32}
  {x2 : FVec Ideal S2x4096 .bf16} {x3 : FVec Ideal S1x96x256 .f32} {x4 : FVec Ideal S1x96x25088 .f32}
  {x5 : FVec Ideal S1x96x256 .f32} (b : Fin 8) (n : ℕ)
  (h0 : ∀ (o c : Fin 96) (kh kw : Fin 3),
    x0 (ix3 (tapIx kh kw) o c) = K (ix4 o c kh kw))
  (h1 : ∀ o : Fin 96, x1 (ix2 o 0) = B (ix4 o 0 0 0))
  (hL : ∀ l : Fin 4096, x2 (ix2 0 l) = (if (l.val + 192) % 224 = 223 then 0 else 1 : EReal))
  (hR : ∀ l : Fin 4096, x2 (ix2 1 l) = (if (l.val + 192) % 224 = 0 then 0 else 1 : EReal))
  (h3 : ∀ (c : Fin 96) (l : Fin 256), (x3 (ix3 0 c l) * leftF i : EReal) = line X b c (n + l.val))
  (h4 : ∀ (c : Fin 96) (q : Fin 25088), x4 (ix3 0 c q) = line X b c (n + 256 + q.val))
  (h5 : ∀ (c : Fin 96) (l : Fin 256), (x5 (ix3 0 c l) * rightF i : EReal) = line X b c (n + 25344 + l.val))

include h0 h1 hL hR in
/-- A strip that starts `s` pixels into the half image, at any of its indices. -/
theorem piece_conv {ws : FVec Ideal S96x4096 .bf16} (s : ℕ)
    (hws : ∀ (c : Fin 96) (l : Fin 4096), ws (ix2 c l) = line X b c (n + s + l.val))
    (hn : n % 224 = 0) (hn' : n + 25088 ≤ 50176) (hs : s % 224 = 0) (hs' : s + 3584 ≤ 25088)
    (o : Fin 96) (q : Fin 25088) (x : S1x96x3584.Idx) (g1 : o.val = (x 1).val) (g2 : q.val = s + (x 2).val) :
    strip ws x0 x1 x2 x = conv X K B b o ((n + q.val) / 224) ((n + q.val) % 224) := by
  have e : x = ix3 (0 : Fin 1) o (⟨(x 2).val, (x 2).isLt⟩ : Fin 3584) := by
    funext a
    fin_cases a
    · exact Subsingleton.elim (α := Fin 1) _ _
    · exact Fin.ext g1.symm
    · rfl
  rw [e, strip_conv X K B b (n + s) hws h0 h1 hL hR (by omega) (by omega), g2, ← Nat.add_assoc]

include h4 in
/-- The window of a strip in the middle of the half image: 4096 consecutive pixels of the block. -/
theorem middle_at {ws : FVec Ideal S96x4096 .bf16} (s : ℕ) (hs : 256 ≤ s) (hs' : s + 3840 ≤ 25088)
    (hws : ∀ (c : Fin 96) (l : Fin 4096), ws (ix2 c l) = x4 (ix3 0 c ⟨s - 256 + l.val, by omega⟩))
    (c : Fin 96) (l : Fin 4096) : ws (ix2 c l) = line X b c (n + s + l.val) := by
  rw [hws, h4]
  congr 1
  simp only []
  omega

include h3 h4 in
/-- The first strip's window is the line of pixels from the half image's left halo on. -/
theorem first_line (c : Fin 96) (l : Fin 4096) :
    k0_pay3 (F := Ideal) i (View.ld x3 r0_0) (View.ld x4 r0_1) (ix2 c l) = line X b c (n + 0 + l.val) := by
  rw [first_at]
  by_cases h : l.val < 256
  · rw [dif_pos h]
    exact (congrArg (· * leftF i) (by pointwise [r0_0])).trans (h3 c ⟨l.val, h⟩)
  · rw [dif_neg h]
    refine (?_ : _ = x4 (ix3 0 c ⟨l.val - 256, by omega⟩)).trans ((h4 c ⟨l.val - 256, by omega⟩).trans ?_)
    · pointwise [r0_1]
    · congr 1
      simp only []
      omega

include h4 h5 in
/-- The last strip's window is the line of pixels up to the half image's right halo. -/
theorem last_line (c : Fin 96) (l : Fin 4096) :
    k0_pay39 (F := Ideal) (k0_pay2 (F := Ideal) i) (View.ld x4 r0_29) (View.ld x5 r0_0) (ix2 c l)
      = line X b c (n + 21504 + l.val) := by
  rw [last_at]
  by_cases h : l.val < 3840
  · rw [dif_pos h]
    refine (?_ : _ = x4 (ix3 0 c ⟨21248 + l.val, by omega⟩)).trans ((h4 c ⟨21248 + l.val, by omega⟩).trans ?_)
    · pointwise [r0_29]
    · congr 1
      simp only []
      omega
  · rw [dif_neg h]
    refine (congrArg (· * rightF i) (by pointwise [r0_0])).trans ((h5 c ⟨l.val - 3840, by omega⟩).trans ?_)
    congr 1
    simp only []
    omega

include h0 h1 hL hR h3 h4 h5 in
/-- The block written at a grid point, whose half image starts at pixel `n`, holds the convolution. -/
theorem out_conv (hn : n % 224 = 0) (hn' : n + 25088 ≤ 50176) (o : Fin 96) (q : Fin 25088) :
    out0_6 (F := Ideal) i x0 x1 x2 x3 x4 x5 (ix3 0 o q)
      = conv X K B b o ((n + q.val) / 224) ((n + q.val) % 224) := by
  unfold out0_6
  canon_tiles x g
  case piece0 =>
    refine (congrFun (?_ : _ = strip (k0_pay50 i x0 x1 x2 x3 x4 x5) x0 x1 x2) x).trans
      (piece_conv X K B b n h0 h1 hL hR 21504 (last_line X i b n h4 h5) hn hn' (by omega) (by omega) o q x g1 g2)
    rfl
  case piece6 =>
    refine (congrFun (?_ : _ = strip (k0_pay44 i x0 x1 x2 x3 x4 x5) x0 x1 x2) x).trans
      (piece_conv X K B b n h0 h1 hL hR 0 (first_line X i b n h3 h4) hn hn' (by omega) (by omega) o q x g1
        (g2.trans (Nat.zero_add _).symm))
    rfl
  case piece1 =>
    refine (congrFun (?_ : _ = strip (k0_pay49 i x0 x1 x2 x3 x4 x5) x0 x1 x2) x).trans
      (piece_conv X K B b n h0 h1 hL hR 17920 (middle_at X b n h4 17920 (by omega) (by omega)
        fun c l => by pointwise [k0_pay49, k0_pay34, r0_27]) hn hn' (by omega) (by omega) o q x g1 g2)
    rfl
  case piece2 =>
    refine (congrFun (?_ : _ = strip (k0_pay48 i x0 x1 x2 x3 x4 x5) x0 x1 x2) x).trans
      (piece_conv X K B b n h0 h1 hL hR 14336 (middle_at X b n h4 14336 (by omega) (by omega)
        fun c l => by pointwise [k0_pay48, k0_pay28, r0_25]) hn hn' (by omega) (by omega) o q x g1 g2)
    rfl
  case piece3 =>
    refine (congrFun (?_ : _ = strip (k0_pay47 i x0 x1 x2 x3 x4 x5) x0 x1 x2) x).trans
      (piece_conv X K B b n h0 h1 hL hR 10752 (middle_at X b n h4 10752 (by omega) (by omega)
        fun c l => by pointwise [k0_pay47, k0_pay22, r0_23]) hn hn' (by omega) (by omega) o q x g1 g2)
    rfl
  case piece4 =>
    refine (congrFun (?_ : _ = strip (k0_pay46 i x0 x1 x2 x3 x4 x5) x0 x1 x2) x).trans
      (piece_conv X K B b n h0 h1 hL hR 7168 (middle_at X b n h4 7168 (by omega) (by omega)
        fun c l => by pointwise [k0_pay46, k0_pay16, r0_21]) hn hn' (by omega) (by omega) o q x g1 g2)
    rfl
  case piece5 =>
    refine (congrFun (?_ : _ = strip (k0_pay45 i x0 x1 x2 x3 x4 x5) x0 x1 x2) x).trans
      (piece_conv X K B b n h0 h1 hL hR 3584 (middle_at X b n h4 3584 (by omega) (by omega)
        fun c l => by pointwise [k0_pay45, k0_pay10, r0_19]) hn hn' (by omega) (by omega) o q x g1 g2)
    rfl

end

end Cert.KernelIdeal.Conv

end
-- ==== Proof.Conv.Host.lean ====
/-
  What the host operations before the region leave in the region's operands: the weights as nine matrices, the bias as
  a column, the image as lines of pixels, and the two rows of column masks.
-/
module

public import proofs.«01_k».proof.Proof.Conv.Spec
public import Idealize.ShloMosaic.Lib.Pipeline.ValueKit
public import Idealize.ShloMosaic.Lib.StableHlo.ReadAt

@[expose] public section

set_option maxRecDepth 16384

noncomputable section

namespace Cert.KernelIdeal.Conv

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The weights reach the region as nine matrices, one per tap. -/
theorem weights_at (o k : Fin 96) (kh kw : Fin 3) :
    (V m c main_v2 : FVec Ideal S9x96x96 .bf16) (ix3 (tapIx kh kw) o k)
      = (m ((c : Thread nD τ).loc main_arg1) : FVec Ideal S96x96x3x3 .f32) (ix4 o k kh kw) := by
  unfold V
  after_reads_at
  refine congrArg (m (c, Proc.tc.devRef main_arg1)) ?_
  have hw := kw.isLt
  congr 1 <;> exact Fin.ext (by simp only [tapIx]; omega)

/-- The bias reaches the region as a column. -/
theorem bias_at (o : Fin 96) :
    (V m c main_v3 : FVec Ideal S96x1 .f32) (ix2 o 0)
      = (m ((c : Thread nD τ).loc main_arg2) : FVec Ideal S96x1x1x1 .f32) (ix4 o 0 0 0) := by
  unfold V
  after_reads_at

/-- The image reaches the region with the rows of each channel laid end to end. -/
theorem image_at (b : Fin 8) (k : Fin 96) (n : Fin 50176) :
    (V m c main_v4 : FVec Ideal S8x96x50176 .f32) (ix3 b k n)
      = (m ((c : Thread nD τ).loc main_arg0) : FVec Ideal S8x96x224x224 .f32)
          (ix4 b k ⟨n.val / 224, by omega⟩ ⟨n.val % 224, by omega⟩) := by
  unfold V
  after_reads_at

/-- A pixel's column as the host computes it: the remainder by 224 of the pixel's number in a window plus 192, with the
    host's correction for negative remainders. -/
def colWord (l : ℕ) : BitVec 32 :=
  let r := IntOp.remsi ArithUnit.host (IntOp.addi (BitVec.ofNat 32 l) 192#32) 224#32
  Scalar.select
    (IntOp.andi (IntOp.cmpi .ne (IntOp.cmpi .slt r 0#32) (IntOp.cmpi .slt 224#32 0#32)) (IntOp.cmpi .ne r 0#32))
    (IntOp.addi r 224#32) r

/-- The column word against the last column, at every pixel of a window. -/
theorem colWord_last : ∀ l : Fin 4096,
    IntOp.cmpi .ne (colWord l.val) 223#32 = if (l.val + 192) % 224 = 223 then 0#1 else 1#1 := by
  decide +kernel

/-- The column word against the first column, at every pixel of a window. -/
theorem colWord_first : ∀ l : Fin 4096,
    IntOp.cmpi .ne (colWord l.val) 0#32 = if (l.val + 192) % 224 = 0 then 0#1 else 1#1 := by
  decide +kernel

/-- A bit chosen by a condition, converted, is the number chosen by it. -/
theorem bit_value (p : Prop) [Decidable p] :
    (FloatOps.uitofp .bf16 (if p then 0#1 else 1#1) : Ideal .bf16) = (if p then 0 else 1 : EReal) := by
  by_cases h : p
  · rw [if_pos h, if_pos h]
    change (((0#1 : BitVec 1).toNat : ℝ) : EReal) = 0
    simp
  · rw [if_neg h, if_neg h]
    change (((1#1 : BitVec 1).toNat : ℝ) : EReal) = 1
    simp

/-- The first mask row is zero where the pixel to the left lies in the row above. -/
theorem maskL_at (l : Fin 4096) :
    (V m c main_v16 : FVec Ideal S2x4096 .bf16) (ix2 0 l) = (if (l.val + 192) % 224 = 223 then 0 else 1 : EReal) := by
  unfold V
  after_reads_at
  after_reads_at
  exact (congrArg (FloatOps.uitofp FTy.bf16 : BitVec 1 → Ideal .bf16) (colWord_last l)).trans (bit_value _)

/-- The second mask row is zero where the pixel to the right lies in the row below. -/
theorem maskR_at (l : Fin 4096) :
    (V m c main_v16 : FVec Ideal S2x4096 .bf16) (ix2 1 l) = (if (l.val + 192) % 224 = 0 then 0 else 1 : EReal) := by
  unfold V
  after_reads_at
  after_reads_at
  exact (congrArg (FloatOps.uitofp FTy.bf16 : BitVec 1 → Ideal .bf16) (colWord_first l)).trans (bit_value _)

end Cert.KernelIdeal.Conv

end
-- ==== Proof.Conv.Final.lean ====
/-
  The region's result array and the kernel's result: every block written is the convolution at its pixels, the blocks
  cover the array, and the reshape after the region lays the pixels out in rows.
-/
module

public import proofs.«01_k».proof.Proof.Conv.Body
public import proofs.«01_k».proof.Proof.Conv.Host

@[expose] public section

set_option maxRecDepth 16384

noncomputable section

namespace Cert.KernelIdeal.Conv

open Cert.KernelIdeal Cert.KernelIdeal.Gen
open Idealize.ShloMosaic Idealize.ShloMosaic.TcCoe Idealize.SL.Sem

/-- The block each window takes at a grid point: image `t / 2`, half `t % 2`; the halos are the neighbouring blocks of
    256 pixels, clamped into the image. -/
theorem index_at : ∀ t : Fin grid0.N,
    win0_0.index t = ![0, 0, 0] ∧ win0_1.index t = ![0, 0] ∧ win0_2.index t = ![0, 0]
      ∧ win0_3.index t = ![t.val / 2, 0, t.val % 2 * 97] ∧ win0_4.index t = ![t.val / 2, 0, t.val % 2]
      ∧ win0_5.index t = ![t.val / 2, 0, 98 + t.val % 2 * 97] ∧ win0_6.index t = ![t.val / 2, 0, t.val % 2] := by
  decide +kernel

/-- The second grid coordinate is the half of the image. -/
theorem coords_half : ∀ t : Fin grid0.N, (grid0.coords t 1).val = t.val % 2 := by
  decide +kernel

variable (m : (ℓ : Loc nD τ sig) → Buf (Elt Ideal) ℓ) (c : Dev nD)

/-- The image, as an array of extended reals. -/
abbrev argX : FVec Ideal S8x96x224x224 .f32 := m ((c : Thread nD τ).loc main_arg0)
/-- The weights, as an array of extended reals. -/
abbrev argK : FVec Ideal S96x96x3x3 .f32 := m ((c : Thread nD τ).loc main_arg1)
/-- The bias, as an array of extended reals. -/
abbrev argB : FVec Ideal S96x1x1x1 .f32 := m ((c : Thread nD τ).loc main_arg2)

/-- The weights block of a grid point. -/
abbrev blkWeights (t : Fin grid0.N) : FVec Ideal S9x96x96 .bf16 := iblk m c 0 t
/-- The bias block of a grid point. -/
abbrev blkBias (t : Fin grid0.N) : FVec Ideal S96x1 .f32 := iblk m c 1 t
/-- The masks block of a grid point. -/
abbrev blkMasks (t : Fin grid0.N) : FVec Ideal S2x4096 .bf16 := iblk m c 2 t
/-- The left halo block of a grid point. -/
abbrev blkLeft (t : Fin grid0.N) : FVec Ideal S1x96x256 .f32 := iblk m c 3 t
/-- The half image block of a grid point. -/
abbrev blkMain (t : Fin grid0.N) : FVec Ideal S1x96x25088 .f32 := iblk m c 4 t
/-- The right halo block of a grid point. -/
abbrev blkRight (t : Fin grid0.N) : FVec Ideal S1x96x256 .f32 := iblk m c 5 t

/-- The image of a grid point. -/
def imageOf (t : Fin grid0.N) : Fin 8 := ⟨t.val / 2, by have h : t.val < 16 := t.isLt; omega⟩

/-- The image's line of pixels inside the image is the array the region finds. -/
theorem line_image (b : Fin 8) (k : Fin 96) (n : Fin 50176) :
    (V m c main_v4 : FVec Ideal S8x96x50176 .f32) (ix3 b k n) = line (argX m c) b k (n.val + 256) := by
  rw [image_at]
  unfold line
  rw [dif_pos (by omega)]
  congr 2 <;> exact Fin.ext (by simp only []; omega)

/-- The weights block holds each tap's matrix. -/
theorem block_weights (t : Fin grid0.N) (o k : Fin 96) (kh kw : Fin 3) :
    blkWeights m c t (ix3 (tapIx kh kw) o k) = argK m c (ix4 o k kh kw) := by
  refine Eq.trans (b := (V m c main_v2 : FVec Ideal S9x96x96 .bf16) (ix3 (tapIx kh kw) o k)) ?_
    (weights_at m c o k kh kw)
  blk_ext [iblk, index_at t]

/-- The bias block holds the bias. -/
theorem block_bias (t : Fin grid0.N) (o : Fin 96) :
    blkBias m c t (ix2 o 0) = argB m c (ix4 o 0 0 0) := by
  refine Eq.trans (b := (V m c main_v3 : FVec Ideal S96x1 .f32) (ix2 o 0)) ?_ (bias_at m c o)
  blk_ext [iblk, index_at t]

/-- The masks block is the array of masks. -/
theorem block_masks (t : Fin grid0.N) (r : Fin 2) (l : Fin 4096) :
    blkMasks m c t (ix2 r l) = (V m c main_v16 : FVec Ideal S2x4096 .bf16) (ix2 r l) := by
  blk_ext [iblk, index_at t]

/-- The half image block is the line of pixels from the half image on. -/
theorem block_main (t : Fin grid0.N) (k : Fin 96) (q : Fin 25088) :
    blkMain m c t (ix3 0 k q)
      = line (argX m c) (imageOf t) k (t.val % 2 * 25088 + 256 + q.val) := by
  refine Eq.trans (b := (V m c main_v4 : FVec Ideal S8x96x50176 .f32)
    (ix3 (imageOf t) k ⟨t.val % 2 * 25088 + q.val, by omega⟩)) ?_ ((line_image m c _ _ _).trans ?_)
  · blk_ext [iblk, index_at t, imageOf]
  · congr 1
    simp only []
    omega

/-- The left halo times its factor is the line of pixels before the half image. -/
theorem block_left (t : Fin grid0.N) (k : Fin 96) (l : Fin 256) :
    (blkLeft m c t (ix3 0 k l) * leftF (grid0.coords t) : EReal)
      = line (argX m c) (imageOf t) k (t.val % 2 * 25088 + l.val) := by
  have e : blkLeft m c t (ix3 0 k l)
      = (V m c main_v4 : FVec Ideal S8x96x50176 .f32)
          (ix3 (imageOf t) k ⟨t.val % 2 * 97 * 256 + l.val, by omega⟩) := by
    blk_ext [iblk, index_at t, imageOf]
  rw [e, line_image]
  unfold leftF
  rw [coords_half]
  by_cases h : t.val % 2 = 0
  · rw [if_pos h, mul_zero]
    unfold line
    rw [dif_neg (by omega)]
  · rw [if_neg h, mul_one]
    congr 1
    simp only []
    omega

/-- The right halo times its factor is the line of pixels after the half image. -/
theorem block_right (t : Fin grid0.N) (k : Fin 96) (l : Fin 256) :
    (blkRight m c t (ix3 0 k l) * rightF (grid0.coords t) : EReal)
      = line (argX m c) (imageOf t) k (t.val % 2 * 25088 + 25344 + l.val) := by
  have e : blkRight m c t (ix3 0 k l)
      = (V m c main_v4 : FVec Ideal S8x96x50176 .f32)
          (ix3 (imageOf t) k ⟨(98 + t.val % 2 * 97) * 256 + l.val, by omega⟩) := by
    blk_ext [iblk, index_at t, imageOf]
  rw [e, line_image]
  unfold rightF
  rw [coords_half]
  by_cases h : t.val % 2 = 1
  · rw [if_pos h, mul_zero]
    unfold line
    rw [dif_neg (by omega)]
  · rw [if_neg h, mul_one]
    congr 1
    simp only []
    omega

/-- The convolution as the array the region writes: the pixels of each channel laid end to end. -/
def flat : FVec Ideal S8x96x50176 .f32 := fun j =>
  conv (argX m c) (argK m c) (argB m c) (j 0) (j 1) ((j 2).val / 224) ((j 2).val % 224)

/-- The block a grid point leaves, at an index, is the convolution at the pixel the index is placed at. -/
theorem point (t : Fin grid0.N) (o : Fin 96) (q : Fin 25088) :
    out0_6 (F := Ideal) (grid0.coords t) (blkWeights m c t) (blkBias m c t) (blkMasks m c t) (blkLeft m c t) (blkMain m c t)
        (blkRight m c t) (ix3 0 o q)
      = conv (argX m c) (argK m c) (argB m c) (imageOf t) o ((t.val % 2 * 25088 + q.val) / 224)
          ((t.val % 2 * 25088 + q.val) % 224) :=
  out_conv (argX m c) (argK m c) (argB m c) (grid0.coords t) (imageOf t) (t.val % 2 * 25088)
    (fun o k kh kw => block_weights m c t o k kh kw) (fun o => block_bias m c t o)
    (fun l => (block_masks m c t 0 l).trans (maskL_at m c l)) (fun l => (block_masks m c t 1 l).trans (maskR_at m c l))
    (fun k l => block_left m c t k l) (fun k q => block_main m c t k q) (fun k l => block_right m c t k l)
    (by omega) (by omega) o q

/-- The region's result array after the run is the convolution. -/
theorem final : (dats m 0 c).arrAt 6 (cfgs 0).N = flat m c := by
  refine (dats m 0 c).arrAt_eq_of_covers 6 _ (by decide +kernel) fun t _ y => ?_
  blk_simp
  rw [after0_6]
  have e : y = (ix3 (0 : Fin 1) (⟨(y 1).val, (y 1).isLt⟩ : Fin 96) (⟨(y 2).val, (y 2).isLt⟩ : Fin 25088) :
      S1x96x25088.Idx) := by
    funext a
    fin_cases a
    · exact Subsingleton.elim (α := Fin 1) _ _
    · rfl
    · rfl
  have g : flat m c ((win0_6.blk t).view.emb y)
      = conv (argX m c) (argK m c) (argB m c) (imageOf t) ⟨(y 1).val, (y 1).isLt⟩
          ((t.val % 2 * 25088 + (y 2).val) / 224) ((t.val % 2 * 25088 + (y 2).val) % 224) := by
    unfold flat
    have g0 : (((win0_6.blk t).view.emb y) 0).val = t.val / 2 := by
      blk_simp [index_at t]
    have g1 : (((win0_6.blk t).view.emb y) 1).val = (y 1).val := by
      blk_simp [index_at t]
    have g2 : (((win0_6.blk t).view.emb y) 2).val = t.val % 2 * 25088 + (y 2).val := by
      blk_simp [index_at t]
    rw [g2]
    exact congrArg₂ (fun b o => conv (argX m c) (argK m c) (argB m c) b o _ _) (Fin.ext g0) (Fin.ext g1)
  rw [g]
  exact (congrArg _ e).trans (point m c t ⟨(y 1).val, (y 1).isLt⟩ ⟨(y 2).val, (y 2).isLt⟩)

/-- The kernel's result after the run: the convolution, a row of pixels after another. -/
theorem result (b : Fin 8) (o : Fin 96) (h w : Fin 224) :
    (Pipeline.afterTail₀ cfgs (dats m) 0 (V0 m) [hostOps1] c main_v18 : FVec Ideal S8x96x224x224 .f32) (ix4 b o h w)
      = conv (argX m c) (argK m c) (argB m c) b o h.val w.val := by
  unfold Pipeline.afterTail₀
  after_reads_at
  have e := (dats m 0 c).withArrays_arrAt launch₀0.sharedIn (V0 m c) (A_eq m c) 6
  refine (congrFun (e.trans (final m c)) _).trans ?_
  unfold flat
  change conv (argX m c) (argK m c) (argB m c) b o ((h.val * 224 + w.val) / 224) ((h.val * 224 + w.val) % 224) = _
  congr 1 <;> omega

/-- The result as one array. -/
def out : FVec Ideal S8x96x224x224 .f32 := fun j =>
  conv (argX m c) (argK m c) (argB m c) (j 0) (j 1) (j 2).val (j 3).val

/-- The kernel's run: the result is the convolution of the arguments, and the arguments end unchanged. -/
theorem run (ρ : Dev nD → PrngReg) :
    θ_run defs (onTc (τ := τ) (main (F := Ideal))) ⟨m, fun _ => 0, ρ⟩ (fun r => ∀ c : Dev nD,
      r.2.mem ((c : Thread nD τ).loc main_v18) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ⟨?_, ?_, ?_, ?_⟩) (run_main m ρ)
  · refine ((h c).2 main_v18 (Pipeline.mem_restRefs_of main_v18 (by decide) (by decide))).trans ?_
    funext j
    have e : j = (ix4 (⟨(j 0).val, (j 0).isLt⟩ : Fin 8) (⟨(j 1).val, (j 1).isLt⟩ : Fin 96)
        (⟨(j 2).val, (j 2).isLt⟩ : Fin 224) (⟨(j 3).val, (j 3).isLt⟩ : Fin 224) : S8x96x224x224.Idx) := by
      funext a
      fin_cases a <;> rfl
    exact (congrArg _ e).trans (result m c _ _ _ _)
  · exact ((h c).2 main_arg0 (Pipeline.mem_restRefs_of main_arg0 (by decide) (by decide))).trans
      (W_main_arg0 m (dats m) c)
  · exact ((h c).2 main_arg1 (Pipeline.mem_restRefs_of main_arg1 (by decide) (by decide))).trans
      (W_main_arg1 m (dats m) c)
  · exact ((h c).2 main_arg2 (Pipeline.mem_restRefs_of main_arg2 (by decide) (by decide))).trans
      (W_main_arg2 m (dats m) c)

end Cert.KernelIdeal.Conv

end
-- ==== Proof.Conv.Ref.lean ====
/-
  The reference's result at a pixel: the convolution.
-/
module

public import proofs.«01_k».proof.Proof.Conv.Spec
public import proofs.«01_k».proof.Proof.Gen.ReferenceIdeal.Run
public import Idealize.ShloMosaic.Lib.Pipeline.ValueKit

@[expose] public section

set_option maxRecDepth 16384

noncomputable section

namespace Cert.ReferenceIdeal.Conv

open Cert.ReferenceIdeal Cert.ReferenceIdeal.Gen
open Idealize.ShloMosaic Idealize.ShloMosaic.TcCoe Idealize.SL.Sem

/-- The padded image at a pixel: the image with a border of zeros. -/
theorem pad_at (X : FVec Ideal S8x96x224x224 .f32) (b : Fin 8) (c : Fin 96) (h w : Fin 226) :
    pad S8x96x226x226 ![0, 0, 1, 1] ![0, 0, 1, 1] ![0, 0, 0, 0] X (sitofp (F := Ideal) .f32 (constantI S_ 32 0#32))
        pads_S8x96x224x224_S8x96x226x226_000_000_110_110 h_S_ (ix4 b c h w)
      = Cert.KernelIdeal.Conv.xpad X b c h.val w.val := by
  have hz : (FloatOps.sitofp FTy.f32 0#32 : Ideal .f32) = (0 : EReal) := by
    change (((0#32 : BitVec 32).toInt : ℝ) : EReal) = 0
    simp
  unfold Cert.KernelIdeal.Conv.xpad
  pointwise
  rw [hz]
  by_cases hh : (1 ≤ h.val ∧ h.val ≤ 224) ∧ (1 ≤ w.val ∧ w.val ≤ 224)
  · rw [dif_pos hh, dif_pos (by omega)]
  · rw [dif_neg hh, dif_neg (by omega)]

/-- The reference's result at a pixel is the convolution of its arguments. -/
theorem ref_at (m : (ℓ : Loc nD τ sig) → Buf (Elt Ideal) ℓ) (c : Dev nD) (b : Fin 8) (o : Fin 96) (h w : Fin 224)
    (X : FVec Ideal S8x96x224x224 .f32) (K : FVec Ideal S96x96x3x3 .f32) (B : FVec Ideal S96x1x1x1 .f32)
    (hX : m ((c.tc : Thread nD τ).loc main_arg0) = X) (hK : m ((c.tc : Thread nD τ).loc main_arg1) = K)
    (hB : m ((c.tc : Thread nD τ).loc main_arg2) = B) :
    (Value.res_main_v58 m c : FVec Ideal S8x96x224x224 .f32) (ix4 b o h w)
      = Cert.KernelIdeal.Conv.conv X K B b o h.val w.val := by
  have hP := pad_at X
  unfold Value.res_main_v58
  rw [hX, hK, hB]
  generalize pad S8x96x226x226 ![0, 0, 1, 1] ![0, 0, 1, 1] ![0, 0, 0, 0] X
    (sitofp (F := Ideal) .f32 (constantI S_ 32 0#32)) pads_S8x96x224x224_S8x96x226x226_000_000_110_110 h_S_ = P at hP ⊢
  pointwise
  unfold Cert.KernelIdeal.Conv.conv Cert.KernelIdeal.Conv.tap
  simp only [hP]
  have hm : ∀ (kh kw : Fin 3) (h' w' : ℕ), h' = h.val + kh.val → w' = w.val + kw.val →
      (∑ x : Fin 96, Cert.KernelIdeal.Conv.xpad X b x h' w' * K (ix4 o x kh kw) : EReal)
        = ∑ x : Fin 96, K (ix4 o x kh kw) * Cert.KernelIdeal.Conv.xpad X b x (h.val + kh.val) (w.val + kw.val) :=
    fun kh kw h' w' e₁ e₂ => Finset.sum_congr rfl fun x _ => by rw [e₁, e₂, mul_comm]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·)
      (hm 0 0 _ _ ?_ ?_) (hm 0 1 _ _ ?_ ?_)) (hm 0 2 _ _ ?_ ?_)) (hm 1 0 _ _ ?_ ?_)) (hm 1 1 _ _ ?_ ?_))
      (hm 1 2 _ _ ?_ ?_)) (hm 2 0 _ _ ?_ ?_)) (hm 2 1 _ _ ?_ ?_)) (hm 2 2 _ _ ?_ ?_)) rfl
  all_goals first | rfl | exact Nat.add_comm _ _

end Cert.ReferenceIdeal.Conv

end
-- ==== Proof.lean ====
/-
  The certificate: the two kernels' frames and the reference's, the idealization's step, and the value claim, which
  meets the kernel's run (`Cert.KernelIdeal.Conv.run`) with the reference's at the convolution of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Conv.Final
public import proofs.«01_k».proof.Proof.Conv.Ref
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its arguments unchanged and every counter at zero: it has no counters. -/
theorem reference_frame : Cert.quiescent_ReferenceIdeal := by
  intro m ρ _
  refine (θ_run Cert.ReferenceIdeal.defs _ _).mono (fun r h => ?_) (Cert.ReferenceIdeal.Value.run (F := Ideal) m ρ)
  exact ⟨fun c => (h c).2, sem_eq_zero_of_no_sems (by decide) r.2⟩

/-- From arguments that agree, kernel and reference end with the same result, the convolution. -/
theorem value : Cert.algebraic_KernelIdeal_ReferenceIdeal := by
  intro m ρ m' ρ' _ agree
  refine ⟨fun c => Cert.KernelIdeal.Conv.out m c, Cert.KernelIdeal.Conv.run m ρ, ?_⟩
  refine (θ_run Cert.ReferenceIdeal.defs _ _).mono (fun r h c => ⟨(h c).1.trans ?_, (h c).2⟩)
    (Cert.ReferenceIdeal.Value.run (F := Ideal) m' ρ')
  funext j
  have e : j = (ix4 (⟨(j 0).val, (j 0).isLt⟩ : Fin 8) (⟨(j 1).val, (j 1).isLt⟩ : Fin 96)
      (⟨(j 2).val, (j 2).isLt⟩ : Fin 224) (⟨(j 3).val, (j 3).isLt⟩ : Fin 224) :
      Cert.ReferenceIdeal.S8x96x224x224.Idx) := by
    funext a
    fin_cases a <;> rfl
  obtain ⟨hX, hK, hB⟩ := agree c
  exact (congrArg _ e).trans (Cert.ReferenceIdeal.Conv.ref_at m' c _ _ _ _ _ _ _ hX hK hB)

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, value⟩

end Cert.Proof

end
